-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual [hPre_usual : Cert.Pre_usual.Facts] (m : (ℓ : Loc Cert.KernelIdeal.nD Cert.KernelIdeal.τ Cert.KernelIdeal.sig) → Buf (Elt Ideal) ℓ) : Prop :=
  ∀ c : Dev Cert.KernelIdeal.nD,
    (Cert.Pre_usual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_usual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual [hPre_usual : Cert.Pre_usual.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_usual.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_usual [hKernelIdeal : Cert.KernelIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_usual [hReferenceIdeal : Cert.ReferenceIdeal.Facts] [hPre_usual : Cert.Pre_usual.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal_pre_usual [hKernelIdeal : Cert.KernelIdeal.Facts] [hReferenceIdeal : Cert.ReferenceIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_usual : Cert.Pre_usual.Facts),
    quiescent_Kernel (hKernel := hKernel)
    ∧ quiescent_KernelIdeal (hKernelIdeal := hKernelIdeal)
    ∧ quiescent_KernelIdeal_pre_usual (hKernelIdeal := hKernelIdeal) (hPre_usual := hPre_usual)
    ∧ quiescent_ReferenceIdeal (hReferenceIdeal := hReferenceIdeal)
    ∧ quiescent_ReferenceIdeal_pre_usual (hReferenceIdeal := hReferenceIdeal) (hPre_usual := hPre_usual)
    ∧ preserves_Kernel_KernelIdeal
    ∧ algebraic_KernelIdeal_ReferenceIdeal_pre_usual (hKernelIdeal := hKernelIdeal) (hReferenceIdeal := hReferenceIdeal) (hPre_usual := hPre_usual)
-- ==== Pre_usual.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S100x2048 : Shape := ⟨2, ![100, 2048]⟩
abbrev S100 : Shape := ⟨1, ![100]⟩
abbrev S100x1 : Shape := ⟨2, ![100, 1]⟩

class Facts : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S_S100x2048 : S_.BroadcastsInDim S100x2048 (![] : Fin 0 → Fin S100x2048.rank)
  bcast_S_S4096 : S_.BroadcastsInDim S4096 (![] : Fin 0 → Fin S4096.rank)
  bcast_S_S100 : S_.BroadcastsInDim S100 (![] : Fin 0 → Fin S100.rank)
  bcast_S100_S100x1_0 : S100.BroadcastsInDim S100x1 (![0] : Fin 1 → Fin S100x1.rank)
  bcast_S100x1_S100x2048_0_1 : S100x1.BroadcastsInDim S100x2048 (![0, 1] : Fin 2 → Fin S100x2048.rank)
  reducesTo_S100x2048_S100_d1 : S100x2048.ReducesTo [1] S100
  bcast_S_S100x1 : S_.BroadcastsInDim S100x1 (![] : Fin 0 → Fin S100x1.rank)
  scatter_S100x2048_S4096x1_S4096x2048_1_0_0_1_wf : ScatterDims.WF S100x2048 S4096x1 S4096x2048 [1] [0] [0] 1
  scatter_S100_S4096x1_S4096_n_0_0_1_wf : ScatterDims.WF S100 S4096x1 S4096 [] [0] [0] 1

variable [Facts]

def scatter_S100x2048_S4096x1_S4096x2048_1_0_0_1 : ScatterDims S100x2048 S4096x1 S4096x2048 where
  updateWindowDims := [1]
  insertedWindowDims := [0]
  scatterDimsToOperandDims := [0]
  indexVectorDim := 1
  wf := scatter_S100x2048_S4096x1_S4096x2048_1_0_0_1_wf
def scatter_S100_S4096x1_S4096_n_0_0_1 : ScatterDims S100 S4096x1 S4096 where
  updateWindowDims := []
  insertedWindowDims := [0]
  scatterDimsToOperandDims := [0]
  indexVectorDim := 1
  wf := scatter_S100_S4096x1_S4096_n_0_0_1_wf
def fn_part1 {F : FTy → Type} [FloatOps F] (main_arg1 : IVec S4096 32) (main_v10 : FVec F S100x2048 .f32) (main_v17 : FVec F S100x1 .f32) : IVec S4096 1 × IVec S100x1 1 :=
  let main_v18 : FVec F S100x2048 .f32 := broadcastInDim S100x2048 ![0, 1] bcast_S100x1_S100x2048_0_1 main_v17
  let main_v19 : FVec F S100x2048 .f32 := Host.divf main_v10 main_v18
  let main_v20 : FVec F S100x2048 .f32 := mulf main_v19 main_v19
  let main_cst_5 : FVec F S_ .f32 := constant S_ .f32 0x00000000#32
  let main_v21 : FVec F S100 .f32 := (fun x v => Host.reduceAdd x v reducesTo_S100x2048_S100_d1 h_S_) main_v20 main_cst_5
  let main_v22 : FVec F S100x1 .f32 := broadcastInDim S100x1 ![0] bcast_S100_S100x1_0 main_v21
  let main_v23 : FVec F S100x1 .f32 := Host.sqrt main_v22
  let main_c : IVec S_ 32 := constantI S_ 32 0#32
  let main_v24 : IVec S4096 32 := broadcastInDim S4096 ![] bcast_S_S4096 main_c
  let main_v25 : IVec S4096 1 := cmpi .sge main_arg1 main_v24
  let main_c_6 : IVec S_ 32 := constantI S_ 32 100#32
  let main_v26 : IVec S4096 32 := broadcastInDim S4096 ![] bcast_S_S4096 main_c_6
  let main_v27 : IVec S4096 1 := cmpi .slt main_arg1 main_v26
  let main_v28 : IVec S4096 1 := andi main_v25 main_v27
  let main_cst_7 : FVec F S_ .f32 := constant S_ .f32 0x00000000#32
  let main_v29 : FVec F S100x1 .f32 := broadcastInDim S100x1 ![] bcast_S_S100x1 main_cst_7
  let main_v30 : IVec S100x1 1 := cmpf .oeq main_v23 main_v29
  let main_cst_8 : FVec F S_ .f32 := constant S_ .f32 0x2B8CBCCC#32
  let main_v31 : FVec F S100x1 .f32 := broadcastInDim S100x1 ![] bcast_S_S100x1 main_cst_8
  let main_v32 : IVec S100x1 1 := cmpf .oge main_v23 main_v31
  let main_v33 : IVec S100x1 1 := ori main_v30 main_v32
  (main_v28, main_v33)

def fn {F : FTy → Type} [FloatOps F] (main_arg0 : FVec F S4096x2048 .f32) (main_arg1 : IVec S4096 32) : IVec S4096 1 × IVec S100x1 1 :=
  let main_v0 : FVec F S4096x2048 .f32 := mulf main_arg0 main_arg0
  let main_cst : FVec F S_ .f32 := constant S_ .f32 0x00000000#32
  let main_v1 : FVec F S4096 .f32 := (fun x v => Host.reduceAdd x v reducesTo_S4096x2048_S4096_d1 h_S_) main_v0 main_cst
  let main_v2 : FVec F S4096x1 .f32 := broadcastInDim S4096x1 ![0] bcast_S4096_S4096x1_0 main_v1
  let main_v3 : FVec F S4096x1 .f32 := Host.sqrt main_v2
  let main_cst_0 : FVec F S_ .f32 := constant S_ .f32 0x2B8CBCCC#32
  let main_v4 : FVec F S4096x1 .f32 := broadcastInDim S4096x1 ![] bcast_S_S4096x1 main_cst_0
  let main_v5 : FVec F S4096x1 .f32 := maximumf main_v3 main_v4
  let main_v6 : FVec F S4096x2048 .f32 := broadcastInDim S4096x2048 ![0, 1] bcast_S4096x1_S4096x2048_0_1 main_v5
  let main_v7 : FVec F S4096x2048 .f32 := Host.divf main_arg0 main_v6
  let main_cst_1 : FVec F S_ .f32 := constant S_ .f32 0x00000000#32
  let main_v8 : FVec F S100x2048 .f32 := broadcastInDim S100x2048 ![] bcast_S_S100x2048 main_cst_1
  let main_v9 : IVec S4096x1 32 := broadcastInDim S4096x1 ![0] bcast_S4096_S4096x1_0 main_arg1
  let main_v10 : FVec F S100x2048 .f32 := (fun x i u => Host.scatterAdd scatter_S100x2048_S4096x1_S4096x2048_1_0_0_1 x i u) main_v8 main_v9 main_v7
  let main_cst_2 : FVec F S_ .f32 := constant S_ .f32 0x3F800000#32
  let main_v11 : FVec F S4096 .f32 := broadcastInDim S4096 ![] bcast_S_S4096 main_cst_2
  let main_cst_3 : FVec F S_ .f32 := constant S_ .f32 0x00000000#32
  let main_v12 : FVec F S100 .f32 := broadcastInDim S100 ![] bcast_S_S100 main_cst_3
  let main_v13 : IVec S4096x1 32 := broadcastInDim S4096x1 ![0] bcast_S4096_S4096x1_0 main_arg1
  let main_v14 : FVec F S100 .f32 := (fun x i u => Host.scatterAdd scatter_S100_S4096x1_S4096_n_0_0_1 x i u) main_v12 main_v13 main_v11
  let main_cst_4 : FVec F S_ .f32 := constant S_ .f32 0x3F800000#32
  let main_v15 : FVec F S100 .f32 := broadcastInDim S100 ![] bcast_S_S100 main_cst_4
  let main_v16 : FVec F S100 .f32 := maximumf main_v14 main_v15
  let main_v17 : FVec F S100x1 .f32 := broadcastInDim S100x1 ![0] bcast_S100_S100x1_0 main_v16
  fn_part1 (F := F) main_arg1 main_v10 main_v17
-- ==== Kernel.lean ====
abbrev S4096x2048 : Shape := ⟨2, ![4096, 2048]⟩
abbrev S4096 : Shape := ⟨1, ![4096]⟩
abbrev S1x4096 : Shape := ⟨2, ![1, 4096]⟩
abbrev S1x1 : Shape := ⟨2, ![1, 1]⟩
abbrev S128x2048 : Shape := ⟨2, ![128, 2048]⟩
abbrev S_ : Shape := ⟨0, ![]⟩
abbrev S1024x2048 : Shape := ⟨2, ![1024, 2048]⟩
abbrev S1x1024 : Shape := ⟨2, ![1, 1024]⟩
abbrev S1024 : Shape := ⟨1, ![1024]⟩
abbrev S1024x128 : Shape := ⟨2, ![1024, 128]⟩
abbrev S128x128 : Shape := ⟨2, ![128, 128]⟩
abbrev S1024x1 : Shape := ⟨2, ![1024, 1]⟩
abbrev S128 : Shape := ⟨1, ![128]⟩
abbrev S1x128 : Shape := ⟨2, ![1, 128]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S1x4096, .i32⟩
  | .hbm, ⟨3, _⟩ => ⟨S1x1, .f32⟩
  | .local _ .vmem, ⟨0, _⟩ => ⟨S1x4096, .i32⟩
  | .local _ .vmem, ⟨1, _⟩ => ⟨S1x1, .f32⟩
  | .local _ .vmem, ⟨2, _⟩ => ⟨S4096x2048, .f32⟩
  | .local _ .vmem, ⟨3, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S100x2048 : Shape := ⟨2, ![100, 2048]⟩
abbrev S100 : Shape := ⟨1, ![100]⟩
abbrev S100x1 : Shape := ⟨2, ![100, 1]⟩
abbrev S1 : Shape := ⟨1, ![1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S100x2048, .f32⟩
  | .hbm, ⟨14, _⟩ => ⟨S4096x1, .i32⟩
  | .hbm, ⟨15, _⟩ => ⟨S100x2048, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S100, .f32⟩
  | .hbm, ⟨20, _⟩ => ⟨S4096x1, .i32⟩
  | .hbm, ⟨21, _⟩ => ⟨S100, .f32⟩
  | .hbm, ⟨22, _⟩ => ⟨S_, .f32⟩
  | .hbm, ⟨23, _⟩ => ⟨S100, .f32⟩
  | .hbm, ⟨24, _⟩ => ⟨S100, .f32⟩
  | .hbm, ⟨25, _⟩ => ⟨S100x1, .f32⟩
  | .hbm, ⟨26, _⟩ => ⟨S100x2048, .f32⟩
  | .hbm, ⟨27, _⟩ => ⟨S100x2048, .f32⟩
  | .hbm, ⟨28, _⟩ => ⟨S100x2048, .f32⟩
  | .hbm, ⟨29, _⟩ => ⟨S_, .f32⟩
  | .hbm, ⟨30, _⟩ => ⟨S100, .f32⟩
  | .hbm, ⟨31, _⟩ => ⟨S100x1, .f32⟩
  | .hbm, ⟨32, _⟩ => ⟨S100x1, .f32⟩
  | .hbm, ⟨33, _⟩ => ⟨S_, .f32⟩
  | .hbm, ⟨34, _⟩ => ⟨S100x1, .f32⟩
  | .hbm, ⟨35, _⟩ => ⟨S100x1, .f32⟩
  | .hbm, ⟨36, _⟩ => ⟨S100x2048, .f32⟩
  | .hbm, ⟨37, _⟩ => ⟨S100x2048, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S1, .i32⟩
  | .hbm, ⟨47, _⟩ => ⟨S_, .i32⟩
  | .hbm, ⟨48, _⟩ => ⟨S4096x1, .i32⟩
  | .hbm, ⟨49, _⟩ => ⟨S4096x1, .i1⟩
  | .hbm, ⟨50, _⟩ => ⟨S1x1, .i32⟩
  | .hbm, ⟨51, _⟩ => ⟨S4096x1, .i32⟩
  | .hbm, ⟨52, _⟩ => ⟨S4096x1, .i1⟩
  | .hbm, ⟨53, _⟩ => ⟨S4096x1, .i1⟩
  | .hbm, ⟨54, _⟩ => ⟨S_, .i1⟩
  | .hbm, ⟨55, _⟩ => ⟨S4096, .i1⟩
  | .hbm, ⟨56, _⟩ => ⟨S4096x2048, .f32⟩
  | .hbm, ⟨57, _⟩ => ⟨S4096x2048, .i1⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_cst : Ref sig .tc := ⟨.hbm, 58, rfl⟩
abbrev main_call0_v15 : Ref sig .tc := ⟨.hbm, 59, rfl⟩
abbrev main_v28 : Ref sig .tc := ⟨.hbm, 60, rfl⟩
abbrev main_v29 : Ref sig .tc := ⟨.hbm, 61, rfl⟩
abbrev main_cst_7 : Ref sig .tc := ⟨.hbm, 62, rfl⟩
abbrev main_v30 : Ref sig .tc := ⟨.hbm, 63, rfl⟩
abbrev main_cst_8 : Ref sig .tc := ⟨.hbm, 64, rfl⟩
abbrev main_v31 : Ref sig .tc := ⟨.hbm, 65, rfl⟩
abbrev main_cst_9 : Ref sig .tc := ⟨.hbm, 66, rfl⟩
abbrev main_v32 : Ref sig .tc := ⟨.hbm, 67, rfl⟩
abbrev main_cst_10 : Ref sig .tc := ⟨.hbm, 68, rfl⟩
abbrev main_v33 : Ref sig .tc := ⟨.hbm, 69, rfl⟩
abbrev main_v34 : Ref sig .tc := ⟨.hbm, 70, rfl⟩

abbrev nD : Nat := 1
abbrev τ : Topo := Topo.v7x

variable {F : FTy → Type} [FloatOps F]
-- ==== Proof.Equation.lean ====
module

public import Idealize.ShloMosaic.PureOps.Ideal

@[expose] public section

noncomputable section

namespace Cert.Loss

open Idealize.ShloMosaic
open scoped BigOperators

/-- The floor below which a length is not divided by: the single-precision number nearest to `1e-12`. -/
def minLen : ℝ := 9223372 / 2 ^ 63

/-- The floor is a positive number. -/
theorem minLen_pos : 0 < minLen := by unfold minLen; norm_num

variable {ι δ κ γ : Type} [Fintype ι] [Fintype δ] [Fintype κ] [Fintype γ]

/-! ## Finite sums of real numbers inside the extended reals -/

/-- A finite sum of reals is the same real whether it is added up before or after the inclusion. -/
theorem coe_fsum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A square is not negative. -/
theorem sq_nonneg' (a : EReal) : 0 ≤ a * a := by
  induction a using EReal.rec with
  | bot => simp
  | top => simp
  | coe r => rw [← EReal.coe_mul]; exact_mod_cast mul_self_nonneg r

/-- The maximum of two reals is the same real before and after the inclusion. -/
theorem coe_max' (a b : ℝ) : ((max a b : ℝ) : EReal) = max (a : EReal) (b : EReal) :=
  (EReal.coe_strictMono.monotone).map_max

/-- A quotient of reals by a positive real. -/
theorem div_real {b : ℝ} (a : ℝ) (hb : 0 < b) : Ideal.div (a : EReal) (b : EReal) = ((a / b : ℝ) : EReal) := by
  rw [Ideal.div_coe hb.ne', ← EReal.coe_mul, mul_one_div]

/-- The square root of a real that is not negative. -/
theorem sqrt_real {a : ℝ} (ha : 0 ≤ a) : Ideal.sqrt (a : EReal) = ((Real.sqrt a : ℝ) : EReal) := by
  rw [Ideal.sqrt_coe, if_neg ha.not_gt]

/-! ## One row scaled to length one -/

/-- The squared length of row `i`. -/
def len2 (x : ι → δ → EReal) (i : ι) : EReal := ∑ d, x i d * x i d

/-- Row `i` divided by its length, the length floored. -/
def unit (x : ι → δ → EReal) (i : ι) (d : δ) : EReal := Ideal.div (x i d) (max (Ideal.sqrt (len2 x i)) (minLen : EReal))

/-- A squared length is not negative. -/
theorem len2_nonneg (x : ι → δ → EReal) (i : ι) : 0 ≤ len2 x i := Finset.sum_nonneg fun _ _ => sq_nonneg' _

/-- Multiplying by the reciprocal square root of the floored squared length is dividing by the floored length, also
    for a row of infinite length, which both turn into zeros. -/
theorem scale_eq {s : EReal} (hs : 0 ≤ s) (a : EReal) :
    Ideal.rsqrt (max s ((minLen ^ 2 : ℝ) : EReal)) * a = Ideal.div a (max (Ideal.sqrt s) (minLen : EReal)) := by
  induction s using EReal.rec with
  | bot => simp at hs
  | top =>
    rw [max_eq_left le_top, Ideal.rsqrt_top, Ideal.sqrt_top, max_eq_left le_top, zero_mul, Ideal.div, if_neg (by simp)]
    simp
  | coe r =>
    have hr : 0 ≤ r := by exact_mod_cast hs
    have hf := minLen_pos
    have hm : 0 < max r (minLen ^ 2) := lt_max_of_lt_right (by positivity)
    have hq : Real.sqrt (max r (minLen ^ 2)) = max (Real.sqrt r) minLen := by
      rw [Real.sqrt_monotone.map_max, Real.sqrt_sq hf.le]
    have hn : max (Real.sqrt r) minLen ≠ 0 := (lt_max_of_lt_right hf).ne'
    rw [sqrt_real hr, ← coe_max', ← coe_max', Ideal.rsqrt_coe, if_neg hm.not_gt, if_neg hm.ne', hq, Ideal.div_coe hn,
      one_div, mul_comm]

/-- A scaled row holds real numbers, whatever the row held. -/
theorem unit_real (x : ι → δ → EReal) (i : ι) (d : δ) : ∃ r : ℝ, unit x i d = (r : EReal) := by
  have hle : x i d * x i d ≤ len2 x i :=
    Finset.single_le_sum (f := fun d => x i d * x i d) (fun _ _ => sq_nonneg' _) (Finset.mem_univ d)
  have h0 := len2_nonneg x i
  unfold unit
  generalize len2 x i = s at hle h0
  induction s using EReal.rec with
  | bot => simp at h0
  | top =>
    refine ⟨0, ?_⟩
    rw [Ideal.sqrt_top, max_eq_left le_top, Ideal.div, if_neg (by simp)]
    simp
  | coe r =>
    have hr : 0 ≤ r := by exact_mod_cast h0
    generalize x i d = a at hle
    induction a using EReal.rec with
    | bot => simp at hle
    | top => simp at hle
    | coe a =>
      exact ⟨_, by rw [sqrt_real hr, ← coe_max', div_real a (lt_max_of_lt_right minLen_pos)]⟩

/-! ## The two ways of writing the loss -/

variable (x : ι → δ → EReal) (b : ι → κ → Prop) [∀ i c, Decidable (b i c)] (N : EReal)

/-- The sum of the scaled rows that belong to class `c`. -/
def total (c : κ) (d : δ) : EReal := ∑ i, if b i c then unit x i d else 0

/-- The loss as the kernel writes it: one minus the added lengths of the class sums over the number of rows. -/
def byLengths : EReal := 1 - Ideal.div (∑ c : κ, Ideal.sqrt (∑ d, total x b c d * total x b c d)) N

/-- The number of rows of class `c`, at least one. -/
def count (c : κ) : EReal := max (∑ i : ι, if b i c then 1 else 0) 1

/-- The mean of class `c`. -/
def mean (c : κ) (d : δ) : EReal := Ideal.div (total x b c d) (count b c)

/-- The length of the mean of class `c`. -/
def meanLen (c : κ) : EReal := Ideal.sqrt (∑ d, mean x b c d * mean x b c d)

/-- The centre of class `c`: its mean over the mean's floored length. -/
def centre (c : κ) (d : δ) : EReal := Ideal.div (mean x b c d) (max (meanLen x b c) (minLen : EReal))

/-- The loss as the reference writes it: one minus the average product of a scaled row and its class's centre. -/
def byCentres (t : ι → κ) : EReal := 1 - Ideal.div (∑ i, ∑ d, unit x i d * centre x b (t i) d) N

/-! ## The same over the real numbers -/

/-- Each row met with a vector of its class, added over the rows, is each class sum met with that vector. -/
theorem sum_by_class [DecidableEq κ] (f : ι → δ → ℝ) (t : ι → κ) (C : κ → δ → ℝ) :
    ∑ i, ∑ d, f i d * C (t i) d = ∑ c, ∑ d, (∑ i, if t i = c then f i d else 0) * C c d := by
  have h : ∀ i d, f i d * C (t i) d = ∑ c, (if t i = c then f i d else 0) * C c d := fun i d => by
    simp [ite_mul]
  calc ∑ i, ∑ d, f i d * C (t i) d = ∑ i, ∑ d, ∑ c, (if t i = c then f i d else 0) * C c d := by simp only [h]
    _ = ∑ i, ∑ c, ∑ d, (if t i = c then f i d else 0) * C c d :=
      Finset.sum_congr rfl fun i _ => Finset.sum_comm
    _ = ∑ c, ∑ i, ∑ d, (if t i = c then f i d else 0) * C c d := Finset.sum_comm
    _ = ∑ c, ∑ d, ∑ i, (if t i = c then f i d else 0) * C c d :=
      Finset.sum_congr rfl fun c _ => Finset.sum_comm
    _ = _ := by simp only [Finset.sum_mul]

/-- A vector met with its own direction is its length: the direction taken from the vector over any positive number,
    whose length is nothing or at least the floor. -/
theorem dot_direction (S : δ → ℝ) {k e : ℝ} (hk : 0 < k) (he : 0 < e)
    (h : Real.sqrt (∑ d, S d / k * (S d / k)) = 0 ∨ e ≤ Real.sqrt (∑ d, S d / k * (S d / k))) :
    ∑ d, S d * (S d / k / max (Real.sqrt (∑ d, S d / k * (S d / k))) e) = Real.sqrt (∑ d, S d * S d) := by
  have hsum : ∑ d, S d / k * (S d / k) = (∑ d, S d * S d) / k ^ 2 := by
    rw [Finset.sum_div]; exact Finset.sum_congr rfl fun d _ => by field_simp
  have hq : 0 ≤ ∑ d, S d * S d := Finset.sum_nonneg fun _ _ => mul_self_nonneg _
  have hlen : Real.sqrt (∑ d, S d / k * (S d / k)) = Real.sqrt (∑ d, S d * S d) / k := by
    rw [hsum, Real.sqrt_div hq, Real.sqrt_sq hk.le]
  rw [hlen] at h ⊢
  set n := Real.sqrt (∑ d, S d * S d) with hn
  have hnn : n * n = ∑ d, S d * S d := Real.mul_self_sqrt hq
  have hpull : ∀ M : ℝ, ∑ d, S d * (S d / k / M) = (∑ d, S d * S d) / (k * M) := fun M => by
    rw [Finset.sum_div]; exact Finset.sum_congr rfl fun d _ => by rw [div_div, mul_div_assoc]
  rw [hpull, ← hnn]
  rcases h with h | h
  · have h0 : n = 0 := by
      rcases div_eq_zero_iff.mp h with h | h
      · exact h
      · exact absurd h hk.ne'
    rw [h0]; simp
  · have hpos : 0 < n / k := lt_of_lt_of_le he h
    have hn0 : 0 < n := by
      have := mul_pos hpos hk
      rwa [div_mul_cancel₀ _ hk.ne'] at this
    rw [max_eq_left h, mul_div_cancel₀ _ hk.ne', mul_div_assoc, div_self hn0.ne', mul_one]

/-! ## The equation -/

omit [Fintype κ] in
/-- A class that no row belongs to has a sum of zeros. -/
theorem total_none (c : κ) (h : ∀ i, ¬ b i c) (d : δ) : total x b c d = 0 := by
  unfold total; exact Finset.sum_eq_zero fun i _ => if_neg (h i)

/-- The two ways of writing the loss agree: the kernel's classes `γ` hold the reference's classes `κ` (through `up`)
    and classes that no row belongs to; every row belongs to the one class `t i`; and the mean of every class is of
    length nothing or at least the floor. -/
theorem byLengths_eq_byCentres [DecidableEq κ] (b' : ι → γ → Prop) [∀ i c, Decidable (b' i c)] (t : ι → κ) (up : κ → γ)
    (hup : Function.Injective up) (hb : ∀ i c, b i c ↔ t i = c) (hb' : ∀ i c, b' i c ↔ up (t i) = c) {n : ℝ} (hn : 0 < n)
    (hlen : ∀ c, meanLen x b c = 0 ∨ (minLen : EReal) ≤ meanLen x b c) :
    byLengths x b' (n : EReal) = byCentres x b (n : EReal) t := by
  classical
  choose f hf using unit_real x
  have hT : ∀ c d, total x b c d = ((∑ i, if t i = c then f i d else 0 : ℝ) : EReal) := fun c d => by
    rw [coe_fsum]; unfold total
    refine Finset.sum_congr rfl fun i _ => ?_
    by_cases h : t i = c
    · rw [if_pos h, if_pos ((hb i c).mpr h), hf]
    · rw [if_neg h, if_neg (fun e => h ((hb i c).mp e)), EReal.coe_zero]
  set S : κ → δ → ℝ := fun c d => ∑ i, if t i = c then f i d else 0 with hS
  have hT' : ∀ c d, total x b' (up c) d = (S c d : EReal) := fun c d => by
    rw [← hT]; unfold total
    refine Finset.sum_congr rfl fun i _ => ?_
    have : b' i (up c) ↔ b i c := by rw [hb, hb', hup.eq_iff]
    simp only [this]
  have hC : ∀ c, ∃ k : ℝ, 0 < k ∧ count b c = (k : EReal) := fun c => by
    refine ⟨max (∑ i, if b i c then 1 else 0) 1, lt_max_of_lt_right one_pos, ?_⟩
    rw [coe_max', coe_fsum]; unfold count
    congr 1
    exact Finset.sum_congr rfl fun i _ => by split <;> simp
  choose k hk hkc using hC
  have hM : ∀ c d, mean x b c d = ((S c d / k c : ℝ) : EReal) := fun c d => by
    unfold mean; rw [hT, hkc, div_real _ (hk c)]
  have hL : ∀ c, meanLen x b c = ((Real.sqrt (∑ d, S c d / k c * (S c d / k c)) : ℝ) : EReal) := fun c => by
    unfold meanLen
    rw [← sqrt_real (Finset.sum_nonneg fun _ _ => mul_self_nonneg _), coe_fsum]
    simp only [hM, EReal.coe_mul]
  have hlen' : ∀ c, Real.sqrt (∑ d, S c d / k c * (S c d / k c)) = 0 ∨ minLen ≤ Real.sqrt (∑ d, S c d / k c * (S c d / k c)) := fun c => by
    have := hlen c; rw [hL] at this; exact_mod_cast this
  have hD : ∀ c d, centre x b c d = ((S c d / k c / max (Real.sqrt (∑ d, S c d / k c * (S c d / k c))) minLen : ℝ) : EReal) := fun c d => by
    unfold centre; rw [hL, hM, ← coe_max', div_real _ (lt_max_of_lt_right minLen_pos)]
  have hR : ∑ i, ∑ d, unit x i d * centre x b (t i) d = ((∑ c, Real.sqrt (∑ d, S c d * S c d) : ℝ) : EReal) := by
    have : ∀ c, Real.sqrt (∑ d, S c d * S c d) = ∑ d, S c d * (S c d / k c / max (Real.sqrt (∑ d, S c d / k c * (S c d / k c))) minLen) :=
      fun c => (dot_direction (S c) (hk c) minLen_pos (hlen' c)).symm
    simp only [this]
    rw [← sum_by_class f t (fun c d => S c d / k c / max (Real.sqrt (∑ d, S c d / k c * (S c d / k c))) minLen), coe_fsum]
    refine Finset.sum_congr rfl fun i _ => ?_
    rw [coe_fsum]
    exact Finset.sum_congr rfl fun d _ => by rw [hf, hD, EReal.coe_mul]
  have hK : ∑ c : γ, Ideal.sqrt (∑ d, total x b' c d * total x b' c d) = ((∑ c, Real.sqrt (∑ d, S c d * S c d) : ℝ) : EReal) := by
    rw [coe_fsum]
    have h1 : ∀ c : κ, ((Real.sqrt (∑ d, S c d * S c d) : ℝ) : EReal) = Ideal.sqrt (∑ d, total x b' (up c) d * total x b' (up c) d) := fun c => by
      rw [← sqrt_real (Finset.sum_nonneg fun _ _ => mul_self_nonneg _), coe_fsum]
      simp only [hT', EReal.coe_mul]
    simp only [h1]
    rw [← Finset.sum_image (s := Finset.univ) (g := up) (f := fun c => Ideal.sqrt (∑ d, total x b' c d * total x b' c d)) hup.injOn]
    refine (Finset.sum_subset (Finset.subset_univ _) fun c _ hc => ?_).symm
    have h0 : ∀ i, ¬ b' i c := fun i h => hc (Finset.mem_image.mpr ⟨t i, Finset.mem_univ _, (hb' i c).mp h⟩)
    simp only [total_none x b' c h0, mul_zero, Finset.sum_const_zero]
    rw [← EReal.coe_zero, sqrt_real le_rfl, Real.sqrt_zero]
  unfold byLengths byCentres
  rw [hR, hK]

end Cert.Loss

end
-- ==== Proof.Block.lean ====
module

public import proofs.«01_k».proof.Proof.Gen.KernelIdeal.Skeleton
public import proofs.«01_k».proof.Proof.Equation
public import Idealize.ShloMosaic.Lib.Pointwise
public import Idealize.ShloMosaic.PureOps.Ideal.Laws

/-
  What one block of the kernel computes, and the four blocks together: the sums of the scaled rows of each class, and the
  loss read off their lengths.
-/

@[expose] public section

set_option maxRecDepth 16384

noncomputable section

namespace Cert.KernelIdeal.Block

open Cert.KernelIdeal Cert.KernelIdeal.Gen Cert.Loss Idealize.ShloMosaic
open scoped BigOperators

/-- The printed word of `1e-12` is the floor of the lengths. -/
theorem floor_word : Ideal.ofBits .f32 0x2B8CBCCC#32 = (minLen : EReal) := by
  unfold minLen
  simp [Ideal.ofBits, Ideal.ieee, -EReal.coe_mul]; norm_num

/-- The named constant is the square of the floor. -/
theorem floor_sq : (Named.named κ "eps_sq" 0x179ABE15#32 : Ideal .f32) = ((minLen ^ 2 : ℝ) : EReal) := by
  refine (IdealRules.named_const.ideal_named_scalar (φ := .f32) κ "eps_sq" 0x179ABE15#32 _ rfl).trans ?_
  unfold minLen
  norm_num

/-- A sum over 2048 columns, taken as 128 lanes of 16 columns that are 128 apart. -/
theorem sum_lanes (g : Fin 2048 → EReal) :
    ∑ d, g d = ∑ l : Fin 128, ∑ q : Fin 16, g ⟨128 * q.val + l.val, by omega⟩ := by
  rw [Finset.sum_comm, ← Finset.sum_product']
  refine (Fintype.sum_bijective (fun p : Fin 16 × Fin 128 => (⟨128 * p.1.val + p.2.val, by omega⟩ : Fin 2048)) ?_ _ _ fun _ => rfl).symm
  constructor
  · rintro ⟨a, b⟩ ⟨a', b'⟩ h
    have := congrArg Fin.val h
    dsimp only at this
    ext <;> dsimp only <;> omega
  · intro d
    exact ⟨⟨⟨d.val / 128, by omega⟩, ⟨d.val % 128, by omega⟩⟩, Fin.ext (by dsimp only; omega)⟩

/-- The squared lengths of a block's rows, found in every one of the 128 lanes. -/
theorem lengths (v : Vec Ideal S1024x2048 .f32) (i : Fin 1024) (l : Fin 128) :
    k0_pay8 (F := Ideal) v (ix2 i l) = len2 (fun i d => v (ix2 i d)) i := by
  unfold len2
  rw [sum_lanes]
  pointwise [k0_pay8]
  refine Finset.sum_congr rfl fun x _ => ?_
  simp only [Fin.sum_univ_succ, Fin.sum_univ_zero, Fin.val_succ, Fin.val_zero]
  simp only [add_zero, mul_zero, zero_add, ← add_assoc]

/-- A block adds to the class sums its scaled rows, each to the class that its label names. -/
theorem block (v : Vec Ideal S1024x2048 .f32) (lab : IVec S1024 32) (acc : Vec Ideal S128x2048 .f32) (c : Fin 128) (d : Fin 2048) :
    k0_pay1 (F := Ideal) v lab (k0_pay8 v) (Named.named κ "eps_sq" 0x179ABE15#32) acc (ix2 c d)
      = acc (ix2 c d) + total (fun (i : Fin 1024) (d : Fin 2048) => v (ix2 i d)) (fun i (c : Fin 128) => lab (ix1 i) = BitVec.ofNat 32 c) c d := by
  pointwise [k0_pay1]
  refine congrArg (acc (ix2 c d) + ·) (Finset.sum_congr rfl fun i _ => ?_)
  rw [lengths, floor_sq, scale_eq (len2_nonneg _ _)]
  by_cases h : lab (ix1 i) = BitVec.ofNat 32 c.val
  · simp [Scalar.select, IntOp.cmpi, h, unit]
  · rw [if_neg h]
    have hb : (lab (ix1 i) == BitVec.ofNat 32 c.val) = false := by simpa using h
    simp [Scalar.select, IntOp.cmpi, hb]

/-- The first block starts the sums. -/
theorem first (v : Vec Ideal S1024x2048 .f32) (lab : IVec S1024 32) :
    k0_pay6 (F := Ideal) v lab (k0_pay4 v) (k0_pay5 v)
      = k0_pay1 v lab (k0_pay8 v) (Named.named κ "eps_sq" 0x179ABE15#32) (fun _ => (0 : EReal)) := by
  funext j
  show _ = (0 : EReal) + _
  rw [zero_add]; rfl

/-- The second block adds as the last does. -/
theorem second (v : Vec Ideal S1024x2048 .f32) (lab : IVec S1024 32) (acc : Vec Ideal S128x2048 .f32) :
    k0_pay9 (F := Ideal) v lab (k0_pay8 v) (Named.named κ "eps_sq" 0x179ABE15#32) acc
      = k0_pay1 v lab (k0_pay8 v) (Named.named κ "eps_sq" 0x179ABE15#32) acc := rfl

/-- The third block adds as the last does. -/
theorem third (v : Vec Ideal S1024x2048 .f32) (lab : IVec S1024 32) (acc : Vec Ideal S128x2048 .f32) :
    k0_pay13 (F := Ideal) v lab (k0_pay11 v) (k0_pay12 v) acc
      = k0_pay1 v lab (k0_pay8 v) (Named.named κ "eps_sq" 0x179ABE15#32) acc := rfl

/-- The last block's squared lengths are found as the second's. -/
theorem fourth (v : Vec Ideal S1024x2048 .f32) : k0_pay15 (F := Ideal) v = k0_pay8 v := rfl

/-- The number of rows as a real number. -/
theorem rows_word : Ideal.ofBits .f32 0x45800000#32 = ((4096 : ℝ) : EReal) := by
  simp [Ideal.ofBits, Ideal.ieee, -EReal.coe_mul]; norm_num

/-- From the class sums to the loss. -/
theorem finish (a : Vec Ideal S128x2048 .f32) (j : S1x1.Idx) :
    k0_pay2 (F := Ideal) a j
      = 1 - Ideal.div (∑ c : Fin 128, Ideal.sqrt (∑ d : Fin 2048, a (ix2 c d) * a (ix2 c d))) ((4096 : ℝ) : EReal) := by
  pointwise [k0_pay2]
  rw [rows_word]

/-! ## The four blocks together -/

/-- A sum over 4096 rows, taken block by block. -/
theorem sum_blocks (g : Fin 4096 → EReal) :
    ∑ i, g i = ∑ q : Fin 4, ∑ i : Fin 1024, g ⟨1024 * q.val + i.val, by omega⟩ := by
  rw [← Finset.sum_product']
  refine (Fintype.sum_bijective (fun p : Fin 4 × Fin 1024 => (⟨1024 * p.1.val + p.2.val, by omega⟩ : Fin 4096)) ?_ _ _ fun _ => rfl).symm
  constructor
  · rintro ⟨a, b⟩ ⟨a', b'⟩ h
    have := congrArg Fin.val h
    dsimp only at this
    ext <;> dsimp only <;> omega
  · intro d
    exact ⟨⟨⟨d.val / 1024, by omega⟩, ⟨d.val % 1024, by omega⟩⟩, Fin.ext (by dsimp only; omega)⟩

/-- Class `c` holds the rows whose label is the word of `c`. -/
abbrev inClass {n k : ℕ} (lab : Fin n → BitVec 32) (i : Fin n) (c : Fin k) : Prop := lab i = BitVec.ofNat 32 c.val

/-- The class sums over all rows are the class sums over the four blocks, added. -/
theorem total_blocks (x : Fin 4096 → Fin 2048 → EReal) (lab : Fin 4096 → BitVec 32) (c : Fin 128) (d : Fin 2048) :
    total x (inClass lab) c d = ∑ q : Fin 4, total (fun (i : Fin 1024) (d : Fin 2048) => x ⟨1024 * q.val + i.val, by omega⟩ d)
      (inClass fun i : Fin 1024 => lab ⟨1024 * q.val + i.val, by omega⟩) c d := by
  unfold total
  rw [sum_blocks]
  rfl

/-- What the body leaves in its output, from the blocks of rows and of labels that it loads. -/
def stored (v : Fin 4 → Vec Ideal S1024x2048 .f32) (l : Fin 4 → Vec Ideal S1x1024 .i32) : FVec Ideal S1x1 .f32 :=
  k0_pay2 (k0_pay1 (v 3) (k0_pay14 (l 3)) (k0_pay15 (v 3)) (Named.named κ "eps_sq" 0x179ABE15#32)
    (k0_pay13 (v 2) (k0_pay10 (l 2)) (k0_pay11 (v 2)) (k0_pay12 (v 2))
      (k0_pay9 (v 1) (k0_pay7 (l 1)) (k0_pay8 (v 1)) (Named.named κ "eps_sq" 0x179ABE15#32)
        (k0_pay6 (v 0) (k0_pay3 (l 0)) (k0_pay4 (v 0)) (k0_pay5 (v 0))))))

/-- The row of labels of a block, read at a place. -/
theorem labels (l : Vec Ideal S1x1024 .i32) (i : Fin 1024) : k0_pay14 (F := Ideal) l (ix1 i) = l (ix2 0 i) := by
  pointwise [k0_pay14]

/-- What the body leaves is the loss by lengths, of the rows and labels whose blocks it loaded. -/
theorem stored_eq (x : Fin 4096 → Fin 2048 → EReal) (lab : Fin 4096 → BitVec 32)
    (v : Fin 4 → Vec Ideal S1024x2048 .f32) (l : Fin 4 → Vec Ideal S1x1024 .i32)
    (hv : ∀ (q : Fin 4) (i : Fin 1024) (d : Fin 2048), v q (ix2 i d) = x ⟨1024 * q.val + i.val, by omega⟩ d)
    (hl : ∀ (q : Fin 4) (i : Fin 1024), l q (ix2 0 i) = lab ⟨1024 * q.val + i.val, by omega⟩) (j : S1x1.Idx) :
    stored v l j = byLengths x (inClass lab : Fin 4096 → Fin 128 → Prop) ((4096 : ℝ) : EReal) := by
  unfold stored byLengths
  rw [finish, fourth, third, second, first]
  have h7 : ∀ l, k0_pay7 (F := Ideal) l = k0_pay14 (F := Ideal) l := fun _ => rfl
  have h10 : ∀ l, k0_pay10 (F := Ideal) l = k0_pay14 (F := Ideal) l := fun _ => rfl
  have h3 : ∀ l, k0_pay3 (F := Ideal) l = k0_pay14 (F := Ideal) l := fun _ => rfl
  simp only [h7, h10, h3, block, labels, hv, hl, total_blocks, Fin.sum_univ_four, zero_add]

end Cert.KernelIdeal.Block

end
-- ==== Proof.Array.lean ====
module

public import proofs.«01_k».proof.Proof.Gen.KernelIdeal.Value
public import proofs.«01_k».proof.Proof.Block
public import Idealize.ShloMosaic.Lib.Pipeline.ValueKit
public import Idealize.ShloMosaic.Lib.Pipeline.ReadBack
public import Idealize.ShloMosaic.Lib.StableHlo.ReadAt

/-
  What the result array holds after the run: the loss by lengths of the argument arrays.
-/

@[expose] public section

set_option maxRecDepth 16384

noncomputable section

namespace Cert.KernelIdeal.Array

open Cert.KernelIdeal Cert.KernelIdeal.Gen Cert.KernelIdeal.Block Cert.Loss
open Idealize.ShloMosaic Idealize.ShloMosaic.TcCoe Idealize.SL.Sem
open Idealize.ShloMosaic.Pipeline (Dat)

/-- Block `q` of the rows, as a load of 1024 rows of the features. -/
def rowsAt (c : Dev nD) (fh0 : HbBuf0 (F := Ideal) c hbM0_0) (q : Fin 4) : Vec Ideal S1024x2048 .f32 :=
  fun j => fh0 (ix2 ⟨1024 * q.val + (j 0).val, by have := (j 0).isLt; change (j 0).val < 1024 at this; omega⟩ (j 1))

/-- Block `q` of the labels. -/
def labelsAt (x0 : Vec Ideal S1x4096 .i32) (q : Fin 4) : Vec Ideal S1x1024 .i32 :=
  fun j => x0 (ix2 0 ⟨1024 * q.val + (j 1).val, by have := (j 1).isLt; change (j 1).val < 1024 at this; omega⟩)

/-- The label load at columns `1024 q` onwards is block `q` of the labels. -/
theorem label_load (x0 : Vec Ideal S1x4096 .i32) (q : Fin 4) (o : ℕ) (ho : o = 1024 * q.val)
    (inb : ∀ a, (![0, o] : Fin 2 → ℕ) a + (![1, 1024] : Fin 2 → ℕ) a ≤ S1x4096.size a) :
    View.ld x0 (Rect.unit (s := S1x4096) ![0, o] ![1, 1024] inb) = labelsAt x0 q := by
  subst ho
  funext j
  refine View.ld_unit_apply_of x0 _ _ inb j _ fun a => ?_
  fin_cases a
  · have : (j 0).val < 1 := (j 0).isLt
    show 0 = 0 + (j 0).val
    omega
  · rfl

/-- The copy of rows `1024 q` onwards is block `q` of the rows. -/
theorem row_load (c : Dev nD) (fh0 : HbBuf0 (F := Ideal) c hbM0_0) (q : Fin 4) (o : ℕ) (ho : o = 1024 * q.val)
    (inb : ∀ a, (![o, 0] : Fin 2 → ℕ) a + (![1024, 2048] : Fin 2 → ℕ) a ≤ S4096x2048.size a) :
    (ReadAs.same.apply (View.read (Elt Ideal) ((View.whole main_arg0).slice (Rect.unit (s := S4096x2048) ![o, 0] ![1024, 2048] inb)) fh0)
      : Vec Ideal S1024x2048 .f32) = rowsAt c fh0 q := by
  subst ho
  funext j
  refine congrArg fh0 (funext fun a => Fin.ext ?_)
  refine (Rect.idx_unit_val _ _ inb j a).trans ?_
  fin_cases a
  · rfl
  · show 0 + (j 1).val = (j 1).val
    omega

/-- What the body leaves in its output: the blocks put through the block computation. -/
theorem body_eq (c : Dev nD) (arg0 : Memref sig .tc .vmem S1x4096 .i32) (harg0 : arg0.IsWhole) (arg2 : Memref sig .tc .vmem S1x1 .f32) (harg2 : arg2.IsWhole)
    (arg3 : Memref sig .tc .vmem S4096x2048 .f32) (harg3 : arg3.IsWhole) (arg4 : Memref sig .tc .vmem S128x2048 .f32) (harg4 : arg4.IsWhole)
    (x0 : Vec Ideal S1x4096 .i32) (fh0 : HbBuf0 (F := Ideal) c hbM0_0) :
    out0_A_1 c arg0 harg0 arg2 harg2 arg3 harg3 arg4 harg4 x0 fh0 = stored (rowsAt c fh0) (labelsAt x0) := by
  frame_open
  simp (disch := decide) only [↓ View.readCov_skip, ↓ View.readCov_cons_toLoadRect, ↓ View.readCov_fill]
  frame_out
  rw [label_load x0 0 0 rfl, label_load x0 1 1024 rfl, label_load x0 2 2048 rfl, label_load x0 3 3072 rfl,
    row_load c fh0 0 0 rfl, row_load c fh0 1 1024 rfl, row_load c fh0 2 2048 rfl, row_load c fh0 3 3072 rfl]
  rfl

variable (m : (ℓ : Loc nD τ sig) → Buf (Elt Ideal) ℓ) (c : Dev nD)

/-- The features as a table of extended reals. -/
def feats (i : Fin 4096) (d : Fin 2048) : EReal := m ((c : Thread nD τ).loc main_arg0) (ix2 i d)

/-- The labels as a list of words. -/
def words (i : Fin 4096) : BitVec 32 := m ((c : Thread nD τ).loc main_arg1) (ix1 i)

/-- The row of labels that the body is given, read at a place. -/
theorem label_row (t : Fin cfg0.N) (i : Fin 4096) : iblk m c 0 t (ix2 0 i) = words m c i := by
  have hp : (win0_0.blk t).view.emb (ix2 0 i) = (ix2 0 i : S1x4096.Idx) := by
    funext a
    apply Fin.ext
    refine (Pipeline.Window.rect_emb_val win0_0 t (ix2 0 i) a).trans ?_
    fin_cases a
    · rfl
    · show 0 * 4096 + i.val = i.val
      omega
  blk_simp [iblk]
  rw [hp]
  unfold V
  after_reads_at
  rfl

/-- The result array holds the loss by lengths. -/
theorem result_eq : (dats m 0 c).arrAt 1 cfg0.N
    = fun _ => byLengths (feats m c) (inClass (words m c) : Fin 4096 → Fin 128 → Prop) ((4096 : ℝ) : EReal) := by
  refine (dats m 0 c).arrAt_eq_of_covers 1 _ (by decide +kernel) fun t hf y => ?_
  blk_simp
  rw [after0_1]
  unfold outsAt0
  rw [body_eq]
  refine stored_eq (feats m c) (words m c) _ _ (fun q i d => ?_) (fun q i => ?_) _
  · rw [V_main_arg0]; rfl
  · exact label_row m c t _

end Cert.KernelIdeal.Array

end
-- ==== Proof.Ref.lean ====
module

public import proofs.«01_k».proof.Proof.Gen.ReferenceIdeal.Read
public import proofs.«01_k».proof.Proof.Block
public import Idealize.ShloMosaic.Lib.Routing.OpsPair

/-
  What the reference computes: the class totals and counts it scatters, the centres, the centre it looks up for each row,
  and the loss read off them.
-/

@[expose] public section

set_option maxRecDepth 16384

noncomputable section

namespace Cert.ReferenceIdeal.Ref

open Cert.ReferenceIdeal Cert.ReferenceIdeal.Gen Cert.ReferenceIdeal.Read Cert.Loss
open Idealize.ShloMosaic
open Cert.KernelIdeal.Block (inClass floor_word rows_word)
open scoped BigOperators

/-- Where the class-total scatter sends row `i` along the class axis: to the number its label reads as. -/
theorem total_start (i : Fin 4096) (d : Fin 2048) (idx : IVec S4096x1 32) :
   scatter_S100x2048_S4096x1_S4096x2048_1_0_0_1.start (ix2 i d) idx 0 = (idx (ix2 i 0)).toInt := by
  unfold ScatterDims.start
  rw [dif_pos (by decide)]
  refine congrArg (fun k => (idx k).toInt) (funext fun b => ?_)
  fin_cases b <;> rfl

/-- Where the row-count scatter sends entry `i`: to the number the row's label reads as. -/
theorem count_start (i : Fin 4096) (idx : IVec S4096x1 32) :
   scatter_S100_S4096x1_S4096_n_0_0_1.start (ix1 i) idx 0 = (idx (ix2 i 0)).toInt := by
  unfold ScatterDims.start
  rw [dif_pos (by decide)]
  refine congrArg (fun k => (idx k).toInt) (funext fun b => ?_)
  fin_cases b <;> rfl

/-- A word read as a signed number is the class number `c` exactly when it is the word of `c`. -/
theorem signed_eq (l : BitVec 32) (c : Fin 100) : l.toInt = (c.val : Int) ↔ l = BitVec.ofNat 32 c.val := by
  have hc : (BitVec.ofNat 32 c.val).toInt = (c.val : Int) := by
    have := c.isLt
    rw [BitVec.toInt_ofNat', Int.bmod_eq_of_le] <;> omega
  constructor
  · intro h; apply BitVec.eq_of_toInt_eq; rw [h, hc]
  · rintro rfl; exact hc

/-- Entry `(i, d)` of the rows is added into entry `(c, k)` of the totals exactly when row `i` carries label `c` and the
lanes agree. -/
theorem total_lands (i : Fin 4096) (d : Fin 2048) (c : Fin 100) (k : Fin 2048) (idx : IVec S4096x1 32) :
    scatter_S100x2048_S4096x1_S4096x2048_1_0_0_1.resultIdx? (ix2 i d) idx = some (ix2 c k) ↔ idx (ix2 i 0) = BitVec.ofNat 32 c.val ∧ d = k := by
  rw [Routing.resultIdx?_eq_some, ← signed_eq, ← total_start i d idx]
  constructor
  · intro h
    have h0 := h 0
    have h1 := h 1
    change _ + ((0:ℕ) : Int) = ((c.val : ℕ) : Int) at h0
    change 0 + ((d.val:ℕ) : Int) = ((k.val : ℕ) : Int) at h1
    refine ⟨by omega, Fin.ext (by omega)⟩
  · rintro ⟨h, rfl⟩ a
    fin_cases a
    · change _ + ((0:ℕ) : Int) = ((c.val : ℕ) : Int)
      rw [← h]; simp
    · change 0 + ((d.val:ℕ) : Int) = ((d.val : ℕ) : Int)
      omega

/-- The row lookup at an index word holding the class number `t` reads row `t` of the table. -/
theorem taken_row (idx : IVec S4096x1 32) (y : S100x2048.Idx → EReal) (i : Fin 4096) (d : Fin 2048) (t : Fin 100)
   (h : idx (ix2 i 0) = BitVec.ofNat 32 t) :
   Host.gather gather_S100x2048_S4096x1_S4096x2048_1_0_n_n_0_1_12048 y idx (ix2 i d) = y (ix2 t d) := by
  refine congrArg y (funext fun a => Fin.ext ?_)
  fin_cases a
  · have hs : gather_S100x2048_S4096x1_S4096x2048_1_0_n_n_0_1_12048.start (ix2 i d) idx 0 = min (idx (ix2 i 0)).toInt.toNat 99 := by
      unfold GatherDims.start
      rw [dif_pos (by decide)]
      refine congrArg (fun k => min (idx k).toInt.toNat 99) (funext fun b => ?_)
      fin_cases b <;> rfl
    show gather_S100x2048_S4096x1_S4096x2048_1_0_n_n_0_1_12048.start (ix2 i d) idx 0 + 0 + 0 = t.val
    rw [hs, (signed_eq _ t).mpr h]
    have := t.isLt
    omega
  · show 0 + 0 + d.val = d.val
    omega

variable (x0 : (⟨S4096x2048, .f32⟩ : BufTy).Contents (Elt Ideal)) (x1 : (⟨S4096, .i32⟩ : BufTy).Contents (Elt Ideal))

/-- The normalised rows: each row over its length, held off zero. -/
theorem unit_eq (i : Fin 4096) (d : Fin 2048) : val_main_v7 (F := Ideal) x0 (ix2 i d) = unit (fun i d => x0 (ix2 i d)) i d := by
  pointwise [val_main_v7, val_main_v6, val_main_v5, val_main_v4, val_main_v3, val_main_v2, val_main_v1, val_main_v0, val_main_cst, val_main_cst_0]
  rw [floor_word]; rfl

/-- The column of labels the totals scatter by. -/
theorem total_label (i : Fin 4096) : val_main_v9 (F := Ideal) x1 (ix2 i 0) = x1 (ix1 i) := by
  pointwise [val_main_v9]

/-- The scattered rows are the class totals. -/
theorem total_eq (c : Fin 100) (k : Fin 2048) : val_main_v10 (F := Ideal) x0 x1 (ix2 c k) = total (fun i d => x0 (ix2 i d)) (inClass fun i => x1 (ix1 i)) c k := by
  unfold val_main_v10
  have h0 : val_main_v8 (F := Ideal) (ix2 c k) = 0 := by pointwise [val_main_v8, val_main_cst_1]
  rw [Host.scatterAdd, Ideal.hostScatterAdd_def, Ideal.hostScatterAdd]
  rw [h0, zero_add, Finset.sum_filter, sum_idx2]
  refine Finset.sum_congr rfl fun i _ => ?_
  simp only [total_lands, unit_eq, total_label]
  by_cases h : x1 (ix1 i) = BitVec.ofNat 32 c.val
  · simp [h, inClass]
  · simp [h, inClass]

/-- The column of labels the counts scatter by. -/
theorem count_label (i : Fin 4096) : val_main_v13 (F := Ideal) x1 (ix2 i 0) = x1 (ix1 i) := by
  pointwise [val_main_v13]

/-- The one of row `i` is added into the count of class `c` exactly when row `i` carries label `c`. -/
theorem count_lands (i : Fin 4096) (c : Fin 100) (idx : IVec S4096x1 32) :
    scatter_S100_S4096x1_S4096_n_0_0_1.resultIdx? (ix1 i) idx = some (ix1 c) ↔ idx (ix2 i 0) = BitVec.ofNat 32 c.val := by
  rw [Routing.resultIdx?_eq_some, ← signed_eq, ← count_start i idx]
  constructor
  · intro h
    have h0 := h 0
    change _ + ((0:ℕ) : Int) = ((c.val : ℕ) : Int) at h0
    omega
  · intro h a
    fin_cases a
    change _ + ((0:ℕ) : Int) = ((c.val : ℕ) : Int)
    rw [← h]; simp

/-- The scattered ones are the class counts. -/
theorem count_eq (c : Fin 100) : val_main_v14 (F := Ideal) x1 (ix1 c) = ∑ i : Fin 4096, if inClass (fun i => x1 (ix1 i)) i c then 1 else 0 := by
  unfold val_main_v14
  have h0 : val_main_v12 (F := Ideal) (ix1 c) = 0 := by pointwise [val_main_v12, val_main_cst_3]
  have h1 (i : Fin 4096) : val_main_v11 (F := Ideal) (ix1 i) = 1 := by pointwise [val_main_v11, val_main_cst_2]
  rw [Host.scatterAdd, Ideal.hostScatterAdd_def, Ideal.hostScatterAdd]
  rw [h0, zero_add, Finset.sum_filter, sum_idx1]
  refine Finset.sum_congr rfl fun i _ => ?_
  simp only [count_lands, h1, count_label]

/-- The length of the mean of class `c`. -/
theorem len_eq (c : Fin 100) : val_main_v23 (F := Ideal) x0 x1 (ix2 c 0) = meanLen (fun i d => x0 (ix2 i d)) (inClass fun i => x1 (ix1 i)) c := by
  pointwise [val_main_v23, val_main_v22, val_main_v21, val_main_v20, val_main_v19, val_main_v18, val_main_v17, val_main_v16, val_main_v15, val_main_cst_4, val_main_cst_5]
  simp only [total_eq, count_eq]
  rfl

/-- The table of centres: each class mean over its length, held off zero. -/
theorem centre_eq (c : Fin 100) (d : Fin 2048) : val_main_v27 (F := Ideal) x0 x1 (ix2 c d) = centre (fun i d => x0 (ix2 i d)) (inClass fun i => x1 (ix1 i)) c d := by
  pointwise [val_main_v27, val_main_v26, val_main_v25, val_main_v24, val_main_v23, val_main_v22, val_main_v21, val_main_v20, val_main_v19, val_main_v18, val_main_v17, val_main_v16, val_main_v15, val_main_cst_4, val_main_cst_5, val_main_cst_6]
  simp only [total_eq, count_eq, floor_word]
  rfl

/-- The conjunction of a list of ones is one. -/
theorem and_ones {α : Type*} (l : List α) (f : α → BitVec 1) (h : ∀ a, f a = 1#1) : l.foldl (fun r a => IntOp.andi r (f a)) 1#1 = 1#1 := by
  induction l with
  | nil => rfl
  | cons a l ih => rw [List.foldl_cons, h]; exact ih

/-- Every class number is at least 0 and at most 99 as a signed word. -/
theorem between : ∀ c : Fin 100, IntOp.andi (IntOp.cmpi .sge (BitVec.ofNat 32 c.val) 0#32) (IntOp.cmpi .sle (BitVec.ofNat 32 c.val) 99#32) = 1#1 := by
  decide

variable (t : Fin 4096 → Fin 100) (ht : ∀ i, x1 (ix1 i) = BitVec.ofNat 32 (t i).val)
include ht

/-- A label that is a class number is looked up as it is: only a negative one is moved. -/
theorem idx_eq (i : Fin 4096) : val_main_call0_v5 (F := Ideal) x1 (ix2 i 0) = BitVec.ofNat 32 (t i).val := by
  pointwise [val_main_call0_v5, val_main_call0_v4, val_main_call0_v3, val_main_call0_v2, val_main_call0_v1, val_main_call0_v0, val_main_call0_c, val_main_call0_c_0]
  rw [Routing.wrap_of_lt, ht]
  rw [ht, BitVec.toNat_ofNat]
  have := (t i).isLt
  omega

/-- A label that is a class number passes the bounds test. -/
theorem mask_eq (j : S4096x1.Idx) : val_main_call0_v11 (F := Ideal) x1 j = 1#1 := by
  obtain ⟨i, u, rfl⟩ : ∃ (i : Fin 4096) (u : Fin 1), j = ix2 i u := ⟨j 0, j 1, by funext a; fin_cases a <;> rfl⟩
  obtain rfl : u = 0 := Subsingleton.elim _ _
  pointwise [val_main_call0_v11, val_main_call0_v10, val_main_call0_v9, val_main_call0_v8, val_main_call0_v7, val_main_call0_v6, val_main_call0_c_1, val_main_call0_c_2]
  rw [idx_eq x1 t ht]
  exact between (t i)

/-- The row of a label that is a class number is kept. -/
theorem keep_eq (i : Fin 4096) : val_main_call0_v12 (F := Ideal) x1 (ix1 i) = 1#1 := by
  unfold val_main_call0_v12 Host.reduce
  exact and_ones _ _ fun _ => mask_eq x1 t ht _

/-- The centre looked up for row `i` is that of its class. -/
theorem take_eq (i : Fin 4096) (d : Fin 2048) : val_main_v28 (F := Ideal) x0 x1 (ix2 i d) = centre (fun i d => x0 (ix2 i d)) (inClass fun i => x1 (ix1 i)) (t i) d := by
  pointwise [val_main_v28, val_main_call0_v14, val_main_call0_v15, val_main_call0_cst]
  rw [keep_eq x1 t ht]
  refine Eq.trans (b := val_main_call0_v13 (F := Ideal) x0 x1 (ix2 i d)) rfl ?_
  unfold val_main_call0_v13
  rw [taken_row _ _ _ _ _ (idx_eq x1 t ht i), centre_eq]

/-- The reference's result, when row `i` carries the label `t i`. -/
theorem result_eq : val_main_v34 (F := Ideal) x0 x1 = fun _ => byCentres (fun i d => x0 (ix2 i d)) (inClass fun i => x1 (ix1 i)) ((4096 : ℝ) : EReal) t := by
  funext j
  pointwise [val_main_v34, val_main_v33, val_main_v32, val_main_v31, val_main_v30, val_main_v29, val_main_cst_7, val_main_cst_8, val_main_cst_9, val_main_cst_10]
  simp only [unit_eq, take_eq x0 x1 t ht, rows_word]
  rfl
end Cert.ReferenceIdeal.Ref

end
-- ==== Proof.Pre.lean ====
module

public import proofs.«01_k».proof.Proof.Gen.Pre_usual
public import proofs.«01_k».proof.Proof.Ref

/-
  What the precondition says: every label is a class number, and the mean of every class has length zero or at least the
  floor.
-/

@[expose] public section

set_option maxRecDepth 16384

noncomputable section

namespace Cert.Pre_usual.Usual

open Cert.Loss
open Cert.KernelIdeal.Block (inClass floor_word)
open Idealize.ShloMosaic

variable (x0 : FVec Ideal S4096x2048 .f32) (x1 : IVec S4096 32)

/-- A word that is at least 0 and below 100 as a signed number is the word of a class number. -/
theorem class_of (l : BitVec 32) (h : IntOp.andi (IntOp.cmpi .sge l 0#32) (IntOp.cmpi .slt l 100#32) = 1#1) :
    ∃ t : Fin 100, l = BitVec.ofNat 32 t.val := by
  have hb : (0#32).sle l = true ∧ l.slt 100#32 = true := by
    cases h0 : (0#32).sle l <;> cases h1 : l.slt 100#32 <;> simp_all [IntOp.andi, IntOp.cmpi]
  have h0 : (0 : Int) ≤ l.toInt := by simpa [BitVec.sle] using hb.1
  have h1 : l.toInt < 100 := by simpa [BitVec.slt] using hb.2
  have ht : l.toInt.toNat < 100 := by omega
  refine ⟨⟨l.toInt.toNat, ht⟩, (Cert.ReferenceIdeal.Ref.signed_eq l _).mp ?_⟩
  show l.toInt = (l.toInt.toNat : Int)
  omega

/-- Every label is a class number. -/
theorem labels_of (h : (fn (F := Ideal) x0 x1).1 = fun _ => 1#1) :
    ∃ t : Fin 4096 → Fin 100, ∀ i, x1 (ix1 i) = BitVec.ofNat 32 (t i).val := by
  have named (i : Fin 4096) : ∃ t : Fin 100, x1 (ix1 i) = BitVec.ofNat 32 t.val := class_of _ (congrFun h (ix1 i))
  exact ⟨fun i => (named i).choose, fun i => (named i).choose_spec⟩

/-- The mean of class `c` has length zero or at least the floor. -/
theorem lengths_of (h : (fn (F := Ideal) x0 x1).2 = fun _ => 1#1) (c : Fin 100) :
    meanLen (fun i d => x0 (ix2 i d)) (inClass fun i => x1 (ix1 i)) c = 0
      ∨ (minLen : EReal) ≤ meanLen (fun i d => x0 (ix2 i d)) (inClass fun i => x1 (ix1 i)) c := by
  have hc : IntOp.ori (FloatOps.cmpf (F := Ideal) (φ := .f32) .oeq (Cert.ReferenceIdeal.Read.val_main_v23 (F := Ideal) x0 x1 (ix2 c 0)) (Ideal.ofBits .f32 0#32))
      (FloatOps.cmpf (F := Ideal) (φ := .f32) .oge (Cert.ReferenceIdeal.Read.val_main_v23 (F := Ideal) x0 x1 (ix2 c 0)) (Ideal.ofBits .f32 0x2B8CBCCC#32)) = 1#1 :=
    congrFun h (ix2 c 0)
  rw [Cert.ReferenceIdeal.Ref.len_eq, floor_word] at hc
  simp only [FloatOps.cmpf, Ideal.cmp, Ideal.ofBits_zero_f32] at hc
  by_contra hn
  rw [not_or] at hn
  rw [decide_eq_false hn.1, decide_eq_false hn.2] at hc
  exact absurd hc (by decide)

/-- Row `i` is in class `k`, of any number of classes up to 128, exactly when its class number stands at place `k`. -/
theorem inClass_of (l : Fin 4096 → BitVec 32) (t : Fin 4096 → Fin 100) (ht : ∀ i, l i = BitVec.ofNat 32 (t i).val) {n : Nat}
    (hn : n ≤ 128) (up : Fin 100 → Fin n) (hv : ∀ k, (up k).val = k.val) (i : Fin 4096) (k : Fin n) :
    inClass l i k ↔ up (t i) = k := by
  unfold inClass
  rw [ht]
  constructor
  · intro e
    have e := congrArg BitVec.toNat e
    rw [BitVec.toNat_ofNat, BitVec.toNat_ofNat] at e
    have := (t i).isLt
    have := k.isLt
    exact Fin.ext ((hv _).trans (by omega))
  · rintro rfl
    rw [hv]

/-- Under the precondition the loss by lengths over 128 places is the reference's result. -/
theorem same (h1 : (fn (F := Ideal) x0 x1).1 = fun _ => 1#1) (h2 : (fn (F := Ideal) x0 x1).2 = fun _ => 1#1) :
    (fun _ => byLengths (fun i d => x0 (ix2 i d)) (inClass (fun i => x1 (ix1 i)) : Fin 4096 → Fin 128 → Prop)
      ((4096 : ℝ) : EReal)) = Cert.ReferenceIdeal.Read.val_main_v34 (F := Ideal) x0 x1 := by
  obtain ⟨t, ht⟩ := labels_of _ _ h1
  have e := byLengths_eq_byCentres (fun i d => x0 (ix2 i d)) (inClass fun i => x1 (ix1 i))
    (inClass (fun i => x1 (ix1 i)) : Fin 4096 → Fin 128 → Prop) t (Fin.castLE (by decide)) (Fin.castLE_injective _)
    (inClass_of _ t ht (by decide) id fun _ => rfl) (inClass_of _ t ht (by decide) _ fun _ => rfl) (n := 4096)
    (by norm_num) (lengths_of x0 x1 h2)
  rw [Cert.ReferenceIdeal.Ref.result_eq x0 x1 t ht, e]

end Cert.Pre_usual.Usual

end
-- ==== Proof.lean ====
/- The certificate's claim, assembled: the three frames, the named constant, and the equality of the kernel's result
   (Proof/Block.lean, Proof/Array.lean) with the reference's (Proof/Ref.lean), which under the precondition (Proof/Pre.lean)
   is the equation of Proof/Equation.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_usual
public import proofs.«01_k».proof.Proof.Array
public import proofs.«01_k».proof.Proof.Ref
public import proofs.«01_k».proof.Proof.Pre
public import Idealize.ShloMosaic.Adequacy
public import Idealize.ShloMosaic.Init

@[expose] public section

noncomputable section

namespace Cert.Proof

open Idealize.ShloMosaic Idealize.SL.Sem
open Cert.Loss Cert.KernelIdeal.Array

/-- The reference runs, leaves its arguments as they were, and has no semaphore to leave raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0 :=
  (θ_run _ _ _).mono (fun r h => ⟨fun c => (h c).2, sem_eq_zero_of_no_sems (by decide) r.2⟩) (Cert.ReferenceIdeal.Value.run m ρ)

/-- Under the precondition the kernel's array and the reference's are one: the loss by lengths is the loss by centres. -/
theorem one_value (m : (ℓ : Loc Cert.KernelIdeal.nD Cert.KernelIdeal.τ Cert.KernelIdeal.sig) → Buf (Elt Ideal) ℓ)
    (h : Cert.Pre_KernelIdeal_usual m) (c : Dev Cert.KernelIdeal.nD) :
    (Cert.KernelIdeal.Gen.dats m 0 c).arrAt 1 Cert.KernelIdeal.cfg0.N
      = Cert.ReferenceIdeal.Read.val_main_v34 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  exact (result_eq m c).trans (Cert.Pre_usual.Usual.same _ _ (h c).1 (h c).2)

/-- The kernel and the reference, from the same arguments, end with the same result. -/
theorem algebraic : Cert.algebraic_KernelIdeal_ReferenceIdeal_pre_usual := by
  intro m ρ m' ρ' h hm
  refine ⟨fun c => (Cert.KernelIdeal.Gen.dats m 0 c).arrAt 1 Cert.KernelIdeal.cfg0.N, Cert.KernelIdeal.Value.run_blocks m ρ,
    (θ_run _ _ _).mono (fun r hr c => ⟨(hr c).1.trans ?_, (hr c).2⟩) (Cert.ReferenceIdeal.Value.run m' ρ')⟩
  rw [Cert.ReferenceIdeal.Read.val_main_v34_eq, (hm c).1, (hm c).2]
  exact (one_value m h c).symm

/-- All the claims. -/
theorem claim : Cert.Claim :=
  ⟨Cert.Kernel.Gen.facts, Cert.KernelIdeal.Gen.facts, Cert.ReferenceIdeal.Gen.facts, Cert.Pre_usual.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement Cert.KernelIdeal.κ "eps_sq" .f32 0x179ABE15#32
      ((5316911940649 / 5316911983139663491615228241121378304 : ℝ) : EReal) rfl,
    algebraic⟩

end Cert.Proof

end
